-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S32768x768 : Shape := ⟨2, ![32768, 768]⟩
abbrev S768x8 : Shape := ⟨2, ![768, 8]⟩
abbrev S8 : Shape := ⟨1, ![8]⟩
abbrev S8x768x8 : Shape := ⟨3, ![8, 768, 8]⟩
abbrev S32768x8 : Shape := ⟨2, ![32768, 8]⟩
abbrev S1x8 : Shape := ⟨2, ![1, 8]⟩
abbrev S_ : Shape := ⟨0, ![]⟩

class Facts : Prop where
  bcast_S8_S1x8_1 : S8.BroadcastsInDim S1x8 (![1] : Fin 1 → Fin S1x8.rank)
  bcast_S1x8_S32768x8_0_1 : S1x8.BroadcastsInDim S32768x8 (![0, 1] : Fin 2 → Fin S32768x8.rank)
  bcast_S_S32768x8 : S_.BroadcastsInDim S32768x8 (![] : Fin 0 → Fin S32768x8.rank)
  dot_S32768x768_S768x8_S32768x8_1_0_0_1_n_n_wf : DotDims.WF S32768x768 S768x8 S32768x8 [1] [0] [0] [1] [] []

variable [Facts]

def dot_S32768x768_S768x8_S32768x8_1_0_0_1_n_n : DotDims S32768x768 S768x8 S32768x8 where
  lhsContracting := [1]
  rhsContracting := [0]
  lhsNonContracting := [0]
  rhsNonContracting := [1]
  lhsBatch := []
  rhsBatch := []
  wf := dot_S32768x768_S768x8_S32768x8_1_0_0_1_n_n_wf
def fn {F : FTy → Type} [FloatOps F] (main_arg0 : FVec F S32768x768 .f32) (main_arg1 : FVec F S768x8 .f32) (main_arg2 : FVec F S8 .f32) (main_arg3 : FVec F S8x768x8 .f32) : IVec S32768x8 1 :=
  let main_v0 : FVec F S32768x8 .f32 := (fun l r => Host.dotGeneral dot_S32768x768_S768x8_S32768x8_1_0_0_1_n_n none l r) main_arg0 main_arg1
  let main_v1 : FVec F S1x8 .f32 := broadcastInDim S1x8 ![1] bcast_S8_S1x8_1 main_arg2
  let main_v2 : FVec F S32768x8 .f32 := broadcastInDim S32768x8 ![0, 1] bcast_S1x8_S32768x8_0_1 main_v1
  let main_v3 : FVec F S32768x8 .f32 := addf main_v0 main_v2
  let main_v4 : FVec F S32768x8 .f32 := Host.absf main_v3
  let main_cst : FVec F S_ .f32 := constant S_ .f32 0x7F800000#32
  let main_v5 : FVec F S32768x8 .f32 := broadcastInDim S32768x8 ![] bcast_S_S32768x8 main_cst
  let main_v6 : IVec S32768x8 1 := cmpf .olt main_v4 main_v5
  main_v6
-- ==== Kernel.lean ====
abbrev S32768x768 : Shape := ⟨2, ![32768, 768]⟩
abbrev S768x8 : Shape := ⟨2, ![768, 8]⟩
abbrev S8 : Shape := ⟨1, ![8]⟩
abbrev S8x768x8 : Shape := ⟨3, ![8, 768, 8]⟩
abbrev S768x8x8 : Shape := ⟨3, ![768, 8, 8]⟩
abbrev S768x64 : Shape := ⟨2, ![768, 64]⟩
abbrev S768x72 : Shape := ⟨2, ![768, 72]⟩
abbrev S1x8 : Shape := ⟨2, ![1, 8]⟩
abbrev S32768x8 : Shape := ⟨2, ![32768, 8]⟩
abbrev S4096x384 : Shape := ⟨2, ![4096, 384]⟩
abbrev S4096x8 : Shape := ⟨2, ![4096, 8]⟩
abbrev S384x72 : Shape := ⟨2, ![384, 72]⟩
abbrev S4096x72 : Shape := ⟨2, ![4096, 72]⟩
abbrev S8x4096 : Shape := ⟨2, ![8, 4096]⟩
abbrev S4096 : Shape := ⟨1, ![4096]⟩
abbrev S1x4096 : Shape := ⟨2, ![1, 4096]⟩
abbrev S8x72 : Shape := ⟨2, ![8, 72]⟩
abbrev S72x8 : Shape := ⟨2, ![72, 8]⟩

abbrev nBuf : Space → Nat
  | .hbm => 9
  | .vmem => 8
  | .smem => 0
  | _ => 0

abbrev bufTy : (tb : Table) → Fin (tcTables nBuf tb) → BufTy
  | .hbm, ⟨0, _⟩ => ⟨S32768x768, .f32⟩
  | .hbm, ⟨1, _⟩ => ⟨S768x8, .f32⟩
  | .hbm, ⟨2, _⟩ => ⟨S8, .f32⟩
  | .hbm, ⟨3, _⟩ => ⟨S8x768x8, .f32⟩
  | .hbm, ⟨4, _⟩ => ⟨S768x8x8, .f32⟩
  | .hbm, ⟨5, _⟩ => ⟨S768x64, .f32⟩
  | .hbm, ⟨6, _⟩ => ⟨S768x72, .f32⟩
  | .hbm, ⟨7, _⟩ => ⟨S1x8, .f32⟩
  | .hbm, ⟨8, _⟩ => ⟨S32768x8, .f32⟩
  | .local _ .vmem, ⟨0, _⟩ => ⟨S4096x384, .f32⟩
  | .local _ .vmem, ⟨1, _⟩ => ⟨S4096x384, .f32⟩
  | .local _ .vmem, ⟨2, _⟩ => ⟨S4096x384, .f32⟩
  | .local _ .vmem, ⟨3, _⟩ => ⟨S4096x384, .f32⟩
  | .local _ .vmem, ⟨4, _⟩ => ⟨S768x72, .f32⟩
  | .local _ .vmem, ⟨5, _⟩ => ⟨S1x8, .f32⟩
  | .local _ .vmem, ⟨6, _⟩ => ⟨S4096x8, .f32⟩
  | .local _ .vmem, ⟨7, _⟩ => ⟨S4096x8, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x72 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32768x768 : Shape := ⟨2, ![32768, 768]⟩
abbrev S768x8 : Shape := ⟨2, ![768, 8]⟩
abbrev S8 : Shape := ⟨1, ![8]⟩
abbrev S8x768x8 : Shape := ⟨3, ![8, 768, 8]⟩
abbrev S32768x8 : Shape := ⟨2, ![32768, 8]⟩
abbrev S1x8 : Shape := ⟨2, ![1, 8]⟩
abbrev S32768x2 : Shape := ⟨2, ![32768, 2]⟩
abbrev S_ : Shape := ⟨0, ![]⟩
abbrev S32768 : Shape := ⟨1, ![32768]⟩
abbrev S32768x1 : Shape := ⟨2, ![32768, 1]⟩
abbrev S32768x8x8 : Shape := ⟨3, ![32768, 8, 8]⟩
abbrev S32768x2x1 : Shape := ⟨3, ![32768, 2, 1]⟩
abbrev S32768x2x2 : Shape := ⟨3, ![32768, 2, 2]⟩
abbrev S32768x8x1 : Shape := ⟨3, ![32768, 8, 1]⟩

abbrev nBuf : Space → Nat
  | .hbm => 53
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S768x8, .f32⟩
  | .hbm, ⟨2, _⟩ => ⟨S8, .f32⟩
  | .hbm, ⟨3, _⟩ => ⟨S8x768x8, .f32⟩
  | .hbm, ⟨4, _⟩ => ⟨S32768x8, .f32⟩
  | .hbm, ⟨5, _⟩ => ⟨S1x8, .f32⟩
  | .hbm, ⟨6, _⟩ => ⟨S32768x8, .f32⟩
  | .hbm, ⟨7, _⟩ => ⟨S32768x8, .f32⟩
  | .hbm, ⟨8, _⟩ => ⟨S32768x2, .f32⟩
  | .hbm, ⟨9, _⟩ => ⟨S32768x2, .i32⟩
  | .hbm, ⟨10, _⟩ => ⟨S_, .f32⟩
  | .hbm, ⟨11, _⟩ => ⟨S32768, .f32⟩
  | .hbm, ⟨12, _⟩ => ⟨S_, .f32⟩
  | .hbm, ⟨13, _⟩ => ⟨S32768, .f32⟩
  | .hbm, ⟨14, _⟩ => ⟨S32768, .f32⟩
  | .hbm, ⟨15, _⟩ => ⟨S32768x1, .f32⟩
  | .hbm, ⟨16, _⟩ => ⟨S32768x2, .f32⟩
  | .hbm, ⟨17, _⟩ => ⟨S32768x2, .f32⟩
  | .hbm, ⟨18, _⟩ => ⟨S32768x2, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S32768x2, .f32⟩
  | .hbm, ⟨23, _⟩ => ⟨S32768x2, .f32⟩
  | .hbm, ⟨24, _⟩ => ⟨S32768x8x8, .f32⟩
  | .hbm, ⟨25, _⟩ => ⟨S32768, .i32⟩
  | .hbm, ⟨26, _⟩ => ⟨S32768x1, .i32⟩
  | .hbm, ⟨27, _⟩ => ⟨S_, .f32⟩
  | .hbm, ⟨28, _⟩ => ⟨S32768x8, .f32⟩
  | .hbm, ⟨29, _⟩ => ⟨S_, .i32⟩
  | .hbm, ⟨30, _⟩ => ⟨S32768x1, .i32⟩
  | .hbm, ⟨31, _⟩ => ⟨S32768x1, .i1⟩
  | .hbm, ⟨32, _⟩ => ⟨S_, .i32⟩
  | .hbm, ⟨33, _⟩ => ⟨S32768x1, .i32⟩
  | .hbm, ⟨34, _⟩ => ⟨S32768x1, .i32⟩
  | .hbm, ⟨35, _⟩ => ⟨S32768x1, .i32⟩
  | .hbm, ⟨36, _⟩ => ⟨S_, .i32⟩
  | .hbm, ⟨37, _⟩ => ⟨S32768x2, .i32⟩
  | .hbm, ⟨38, _⟩ => ⟨S32768x2, .i1⟩
  | .hbm, ⟨39, _⟩ => ⟨S_, .i32⟩
  | .hbm, ⟨40, _⟩ => ⟨S32768x2, .i32⟩
  | .hbm, ⟨41, _⟩ => ⟨S32768x2, .i32⟩
  | .hbm, ⟨42, _⟩ => ⟨S32768x2, .i32⟩
  | .hbm, ⟨43, _⟩ => ⟨S32768x2, .i32⟩
  | .hbm, ⟨44, _⟩ => ⟨S32768x2x1, .i32⟩
  | .hbm, ⟨45, _⟩ => ⟨S32768x2x1, .i32⟩
  | .hbm, ⟨46, _⟩ => ⟨S32768x2x2, .i32⟩
  | .hbm, ⟨47, _⟩ => ⟨S32768x8, .f32⟩
  | .hbm, ⟨48, _⟩ => ⟨S32768x8x1, .f32⟩
  | .hbm, ⟨49, _⟩ => ⟨S32768x8x8, .f32⟩
  | .hbm, ⟨50, _⟩ => ⟨S32768x8x8, .f32⟩
  | .hbm, ⟨51, _⟩ => ⟨S_, .f32⟩
  | .hbm, ⟨52, _⟩ => ⟨S32768x8, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Proof.TopTwo.lean ====
/-
The two largest of eight extended reals, ties going to the lower position: what a stable descending sort puts
first and second, and what that means position by position.
-/
module

public import Idealize.ShloMosaic.Lib.Pointwise
public import Idealize.ShloMosaic.Lib.SortPrefix

@[expose] public section

set_option maxRecDepth 16384

noncomputable section

namespace Cert.Gate

open Idealize.ShloMosaic

/-- Position `a` sorts before position `b`: its value is the greater one. -/
def above (l : Fin 8 → EReal) (a b : Fin 8) : Bool := decide (l b < l a)

/-- The same with ties broken towards the lower position: a strict total order on the positions. -/
def aboveTie (l : Fin 8 → EReal) (a b : Fin 8) : Bool :=
  decide (l b < l a) || (decide (l a = l b) && decide (a < b))

/-- The position the descending sort puts first. -/
def fst (l : Fin 8 → EReal) : Fin 8 := sortedFrom (above l) 0

/-- The position the descending sort puts second. -/
def snd (l : Fin 8 → EReal) : Fin 8 := sortedFrom (above l) 1

theorem aboveTie_total (l : Fin 8 → EReal) : StrictTotalBefore (aboveTie l) :=
  StrictTotalBefore.of_key_then_position (fun a b : EReal => decide (b < a)) l (by simp)
    (by simp only [decide_eq_true_eq]; exact fun a b c h h' => h'.trans h)
    (by
      simp only [decide_eq_true_eq]
      exact fun a b => (lt_trichotomy b a).imp_right (fun h => h.imp_left Eq.symm))

/-- On positions listed in increasing order the two relations sort alike, the sort being stable. -/
theorem stableSort_above (l : Fin 8 → EReal) (p : List (Fin 8)) (hp : p.Pairwise (· < ·)) :
    stableSort (above l) p = stableSort (aboveTie l) p := by
  induction p with
  | nil => rfl
  | cons a p ih =>
    rw [List.pairwise_cons] at hp
    unfold stableSort
    rw [ih hp.2]
    refine insertBefore_congr _ _ _ _ fun b hb => ?_
    have hab : a < b := hp.1 b ((perm_stableSort _ _).mem_iff.mp hb)
    simp [above, aboveTie, hab.not_gt]

theorem sortedFrom_above (l : Fin 8 → EReal) (k : Fin 8) : sortedFrom (above l) k = sortedFrom (aboveTie l) k := by
  have h : sortPositions 8 (above l) = sortPositions 8 (aboveTie l) :=
    stableSort_above l _ (by decide)
  unfold sortedFrom
  simp only [h, List.get_eq_getElem]
  rfl

/-- No later position of the sort is above an earlier one, ties included. -/
theorem sorted_not_above (l : Fin 8 → EReal) (i j : Fin 8) (h : i < j) :
    aboveTie l (sortedFrom (above l) j) (sortedFrom (above l) i) = false := by
  rw [sortedFrom_above, sortedFrom_above]
  exact sortedFrom_noInversion _ _ (aboveTie_total l).asymm (fun _ _ h => h) (aboveTie_total l).negTrans i j h

theorem aboveTie_false (l : Fin 8 → EReal) (a b : Fin 8) :
    aboveTie l a b = false ↔ l a ≤ l b ∧ (a < b → l a < l b) := by
  simp only [aboveTie, Bool.or_eq_false_iff, Bool.and_eq_false_iff, decide_eq_false_iff_not, not_lt]
  constructor
  · rintro ⟨h, h'⟩
    refine ⟨h, fun hab => lt_of_le_of_ne h fun e => ?_⟩
    rcases h' with h' | h'
    · exact h' e
    · exact absurd hab h'.not_gt
  · rintro ⟨h, h'⟩
    refine ⟨h, ?_⟩
    by_cases e : a < b
    · exact Or.inl (h' e).ne
    · exact Or.inr (not_lt.mp e)

theorem snd_ne_fst (l : Fin 8 → EReal) : snd l ≠ fst l := fun h =>
  absurd (sortedFrom_injective _ h) (by decide)

/-- Every position comes after the first, with a strictly smaller value if it is a lower position. -/
theorem fst_top (l : Fin 8 → EReal) (k : Fin 8) : l k ≤ l (fst l) ∧ (k < fst l → l k < l (fst l)) := by
  obtain ⟨j, rfl⟩ := sortedFrom_surjective (above l) k
  rcases Nat.eq_zero_or_pos j.val with h | h
  · obtain rfl : j = 0 := Fin.ext h
    exact ⟨le_refl _, fun h => absurd h (lt_irrefl _)⟩
  · exact (aboveTie_false l _ _).mp (sorted_not_above l 0 j h)

/-- Every position but the first comes after the second, with a strictly smaller value if it is a lower position. -/
theorem snd_top (l : Fin 8 → EReal) (k : Fin 8) (hk : k ≠ fst l) :
    l k ≤ l (snd l) ∧ (k < snd l → l k < l (snd l)) := by
  obtain ⟨j, rfl⟩ := sortedFrom_surjective (above l) k
  have h0 : j.val ≠ 0 := fun h => hk (by rw [fst, show j = 0 from Fin.ext h])
  rcases Nat.eq_or_lt_of_le (Nat.one_le_iff_ne_zero.mpr h0) with h | h
  · obtain rfl : j = 1 := Fin.ext h.symm
    exact ⟨le_refl _, fun h => absurd h (lt_irrefl _)⟩
  · exact (aboveTie_false l _ _).mp (sorted_not_above l 1 j h)

/-- Running maximum from the least value over a masked row is the value at `i` when nothing exceeds it. -/
theorem fold_max_eq (f : Fin 8 → EReal) (i : Fin 8) (h : ∀ k, f k ≤ f i) : Finset.univ.fold max ⊥ f = f i := by
  apply le_antisymm
  · rw [Finset.fold_max_le]
    exact ⟨bot_le, fun k _ => h k⟩
  · rw [Finset.le_fold_max]
    exact Or.inr ⟨i, Finset.mem_univ _, le_refl _⟩

/-- The least matching position, as a running minimum of 32-bit words in which the positions that do not match
    count as 8. -/
theorem fold_min_eq (p : Fin 8 → Bool) (i : Fin 8) (hi : p i = true) (hlt : ∀ k, k < i → p k = false) :
    (Finset.univ : Finset (Fin 8)).fold IntOp.minsi 2147483647#32
      (fun k => if p k = true then BitVec.ofNat 32 k.val else 8#32) = BitVec.ofNat 32 i.val := by
  revert p i
  decide +kernel

end Cert.Gate
end
-- ==== Proof.Weights.lean ====
/-
The gate of one row: the softmax of its two largest logits, placed at their positions, zero elsewhere; and the row's
output, the experts' outputs weighted by the gate.
-/
module

public import proofs.«01_k».proof.Proof.TopTwo

@[expose] public section

set_option maxRecDepth 16384

noncomputable section

namespace Cert.Gate

open Idealize.ShloMosaic

/-- The second largest logit's exponential relative to the largest. -/
def ratio (l : Fin 8 → EReal) : EReal := Ideal.exp (l (snd l) - l (fst l))

/-- The weight of expert `e`: one part of `1 + ratio` at the largest logit, `ratio` parts at the second, none
    elsewhere. -/
def weight (l : Fin 8 → EReal) (e : Fin 8) : EReal :=
  if e = fst l then Ideal.div 1 (1 + ratio l) else if e = snd l then ratio l * Ideal.div 1 (1 + ratio l) else 0

/-- A row's output from its logits and the experts' outputs. -/
def mixture (l y : Fin 8 → EReal) : EReal := ∑ e, y e * weight l e

/-- Row `n` times the gate's column `e`. -/
def gateDot (x : Vec Ideal ⟨2, ![32768, 768]⟩ .f32) (gW : Vec Ideal ⟨2, ![768, 8]⟩ .f32) (n : Fin 32768) (e : Fin 8) :
    EReal := ∑ d, x (ix2 n d) * gW (ix2 d e)

/-- The logits of row `n`: the row times the gate's columns, plus the bias. -/
def logit (x : Vec Ideal ⟨2, ![32768, 768]⟩ .f32) (gW : Vec Ideal ⟨2, ![768, 8]⟩ .f32) (gb : Vec Ideal ⟨1, ![8]⟩ .f32)
    (n : Fin 32768) (e : Fin 8) : EReal := gateDot x gW n e + gb (ix1 e)

/-- Expert `e`'s output at column `c` of row `n`. -/
def expert (x : Vec Ideal ⟨2, ![32768, 768]⟩ .f32) (eW : Vec Ideal ⟨3, ![8, 768, 8]⟩ .f32) (n : Fin 32768) (c e : Fin 8) :
    EReal := ∑ d, x (ix2 n d) * eW (ix3 e d c)

/-- The whole output: at row `n` and column `c`, the mixture of the experts' outputs under the row's gate. -/
def output (x : Vec Ideal ⟨2, ![32768, 768]⟩ .f32) (gW : Vec Ideal ⟨2, ![768, 8]⟩ .f32) (gb : Vec Ideal ⟨1, ![8]⟩ .f32)
    (eW : Vec Ideal ⟨3, ![8, 768, 8]⟩ .f32) : Vec Ideal ⟨2, ![32768, 8]⟩ .f32 :=
  fun j => mixture (logit x gW gb (j 0)) (expert x eW (j 0) (j 1))

/-- The word of the negative infinity denotes the least extended real. -/
theorem ofBits_least : Ideal.ofBits .f32 4286578688#32 = ⊥ := by simp [Ideal.ofBits, Ideal.ieee]

/-- The word of the positive infinity denotes the greatest extended real. -/
theorem ofBits_greatest : Ideal.ofBits .f32 2139095040#32 = ⊤ := by simp [Ideal.ofBits, Ideal.ieee]

/-- With finite logits, the ratio is a positive real. -/
theorem ratio_real (l : Fin 8 → EReal) (h : ∀ e, ∃ a : ℝ, l e = a) : ∃ t : ℝ, 0 < t ∧ ratio l = t := by
  obtain ⟨a, ha⟩ := h (fst l)
  obtain ⟨b, hb⟩ := h (snd l)
  refine ⟨Real.exp (b - a), Real.exp_pos _, ?_⟩
  rw [ratio, ha, hb, ← EReal.coe_sub, Ideal.exp_coe]

/-- Dividing by `1 + ratio` is multiplying by its inverse, so the second weight is also `ratio` over the sum. -/
theorem div_sum (l : Fin 8 → EReal) (h : ∀ e, ∃ a : ℝ, l e = a) :
    Ideal.div (ratio l) (1 + ratio l) = ratio l * Ideal.div 1 (1 + ratio l) := by
  obtain ⟨t, ht, e⟩ := ratio_real l h
  have hs : (1 : EReal) + ratio l = ((1 + t : ℝ) : EReal) := by rw [e]; norm_cast
  have h0 : (1 + t : ℝ) ≠ 0 := by positivity
  rw [hs, Ideal.div_coe h0, Ideal.div_coe h0, one_mul]

end Cert.Gate
end
-- ==== Proof.Block.lean ====
/-
What one block of the kernel computes: its selection of the two largest logits of each row, its softmax, and the two
matrices of zeros and ones that spread the gate over the experts' columns and gather them, together give each row's
mixture of experts.
-/
module

public import proofs.«01_k».proof.Proof.Weights
public import proofs.«01_k».proof.Proof.Gen.KernelIdeal.Value

@[expose] public section

set_option maxRecDepth 16384

noncomputable section

namespace Cert.Gate

open Cert.KernelIdeal Cert.KernelIdeal.Gen Idealize.ShloMosaic

/-- Comparing two positions as 32-bit words is comparing them. -/
theorem eq_words (a b : Fin 8) :
    IntOp.cmpi .eq (BitVec.ofNat 32 a.val) (BitVec.ofNat 32 b.val) = BitVec.ofBool (decide (a = b)) := by
  revert a b; decide +kernel

/-- The spreading matrix has a one at expert `e` and column `x` when the column is one of the expert's. -/
theorem spread_bit (e : Fin 8) (x : Fin 72) :
    IntOp.andi (IntOp.cmpi .eq (BitVec.ofNat 32 e.val)
      (IntOp.shrsi .vector (IntOp.subi (BitVec.ofNat 32 x.val) 8#32) 3#32))
      (IntOp.cmpi .sge (BitVec.ofNat 32 x.val) 8#32) = BitVec.ofBool (decide (8 ≤ x.val ∧ e.val = (x.val - 8) / 8)) := by
  revert e x; decide +kernel

/-- The gathering matrix has a one at column `x` and output `c` when the column is some expert's output `c`. -/
theorem gather_bit (x : Fin 72) (c : Fin 8) :
    IntOp.andi (IntOp.cmpi .eq (IntOp.andi (IntOp.subi (BitVec.ofNat 32 x.val) 8#32) 7#32) (BitVec.ofNat 32 c.val))
      (IntOp.cmpi .sge (BitVec.ofNat 32 x.val) 8#32) = BitVec.ofBool (decide (8 ≤ x.val ∧ c.val = (x.val - 8) % 8)) := by
  revert x c; decide +kernel

/-- A bit widened to a word and converted is one or zero. -/
theorem bit_value (p : Prop) [Decidable p] :
    FloatOps.sitofp (F := Ideal) .f32 (BitVec.setWidth 32 (BitVec.ofBool (decide p))) = if p then (1 : EReal) else 0 := by
  by_cases h : p <;> simp [h, FloatOps.sitofp]

/-- The column that holds output `c` of expert `e`. -/
def col (e c : Fin 8) : Fin 72 := ⟨8 + 8 * e.val + c.val, by omega⟩

/-- Spreading the gate over the columns and gathering them by output keeps, of the 72 columns, one per expert. -/
theorem spread_gather (v : Fin 72 → EReal) (w : Fin 8 → EReal) (c : Fin 8) :
    ∑ x : Fin 72, (v x * ∑ e : Fin 8, w e * (if 8 ≤ x.val ∧ e.val = (x.val - 8) / 8 then (1 : EReal) else 0))
      * (if 8 ≤ x.val ∧ c.val = (x.val - 8) % 8 then (1 : EReal) else 0) = ∑ e, v (col e c) * w e := by
  have h : ∀ x : Fin 72, (v x * ∑ e : Fin 8, w e * (if 8 ≤ x.val ∧ e.val = (x.val - 8) / 8 then (1 : EReal) else 0))
      * (if 8 ≤ x.val ∧ c.val = (x.val - 8) % 8 then (1 : EReal) else 0)
      = ∑ e : Fin 8, if x = col e c then v x * w e else 0 := by
    intro x
    by_cases hx : 8 ≤ x.val ∧ c.val = (x.val - 8) % 8
    · have hq : (x.val - 8) / 8 < 8 := by omega
      rw [if_pos hx, mul_one, Finset.sum_eq_single (⟨(x.val - 8) / 8, hq⟩ : Fin 8),
        Finset.sum_eq_single (⟨(x.val - 8) / 8, hq⟩ : Fin 8)]
      · rw [if_pos ⟨hx.1, rfl⟩, mul_one, if_pos (Fin.ext (by simp only [col]; omega))]
      · intro e _ he
        refine if_neg fun hxe => he (Fin.ext ?_)
        have := congrArg Fin.val hxe
        simp only [col] at this
        show e.val = (x.val - 8) / 8
        omega
      · exact fun h => absurd (Finset.mem_univ _) h
      · intro e _ he
        rw [if_neg fun h => he (Fin.ext h.2), mul_zero]
      · exact fun h => absurd (Finset.mem_univ _) h
    · rw [if_neg hx, mul_zero]
      symm
      refine Finset.sum_eq_zero fun e _ => if_neg fun hxe => hx ?_
      have := congrArg Fin.val hxe
      simp only [col] at this
      omega
  rw [Finset.sum_congr rfl fun x _ => h x, Finset.sum_comm]
  refine Finset.sum_congr rfl fun e _ => ?_
  rw [Finset.sum_ite_eq' Finset.univ (col e c) (fun x => v x * w e), if_pos (Finset.mem_univ _)]

variable (w : Vec Ideal S768x72 .f32) (x1 x2 : Vec Ideal S4096x384 .f32) (b : Vec Ideal S1x8 .f32)

/-- Row `r`'s logits in the block. -/
def rowLogit (r : Fin 4096) (e : Fin 8) : EReal := k0_pay2 w x1 x2 b (ix2 e r)

/-- The block's largest logit of each row. -/
theorem pay3_eq (r : Fin 4096) :
    k0_pay3 w x1 x2 b (ix2 0 r) = rowLogit w x1 x2 b r (fst (rowLogit w x1 x2 b r)) := by
  pointwise [k0_pay3]
  rw [ofBits_least]
  exact fold_max_eq (rowLogit w x1 x2 b r) _ fun k => (fst_top _ k).1

/-- The block marks the position of the row's largest logit. -/
theorem pay4_eq (e : Fin 8) (r : Fin 4096) :
    k0_pay4 w x1 x2 b (ix2 e r) = BitVec.ofBool (decide (e = fst (rowLogit w x1 x2 b r))) := by
  pointwise [k0_pay4]
  rw [pay3_eq, ← eq_words]
  refine congrArg (IntOp.cmpi .eq (BitVec.ofNat 32 e.val)) ?_
  have h := fold_min_eq (fun k => decide (rowLogit w x1 x2 b r k = rowLogit w x1 x2 b r (fst (rowLogit w x1 x2 b r))))
    (fst (rowLogit w x1 x2 b r)) (by simp) (fun k hk => by simpa using ((fst_top _ k).2 hk).ne)
  simp only [decide_eq_true_eq] at h
  exact h

/-- The block's row of logits with the largest taken out. -/
theorem pay5_eq (e : Fin 8) (r : Fin 4096) :
    k0_pay5 w x1 x2 b (ix2 e r) = if e = fst (rowLogit w x1 x2 b r) then ⊥ else rowLogit w x1 x2 b r e := by
  pointwise [k0_pay5]
  rw [pay4_eq, ofBits_least]
  by_cases h : e = fst (rowLogit w x1 x2 b r) <;> simp [h, Scalar.select, rowLogit]

/-- The block's second largest logit of each row. -/
theorem pay6_eq (r : Fin 4096) :
    k0_pay6 w x1 x2 b (ix2 0 r) = rowLogit w x1 x2 b r (snd (rowLogit w x1 x2 b r)) := by
  pointwise [k0_pay6]
  rw [ofBits_least]
  simp only [pay5_eq]
  have h := fold_max_eq (fun k => if k = fst (rowLogit w x1 x2 b r) then ⊥ else rowLogit w x1 x2 b r k)
    (snd (rowLogit w x1 x2 b r)) fun k => by
      rw [if_neg (snd_ne_fst _)]
      split
      · exact bot_le
      · rename_i hk
        exact (snd_top _ k hk).1
  rw [if_neg (snd_ne_fst _)] at h
  exact h

/-- The block marks the position of the row's second largest logit, the logits being above the least value. -/
theorem pay7_eq (e : Fin 8) (r : Fin 4096) (hl : ∀ k, rowLogit w x1 x2 b r k ≠ ⊥) :
    k0_pay7 w x1 x2 b (ix2 e r) = BitVec.ofBool (decide (e = snd (rowLogit w x1 x2 b r))) := by
  pointwise [k0_pay7]
  simp only [pay5_eq, pay6_eq]
  rw [← eq_words]
  refine congrArg (IntOp.cmpi .eq (BitVec.ofNat 32 e.val)) ?_
  have h := fold_min_eq (fun k => decide ((if k = fst (rowLogit w x1 x2 b r) then ⊥ else rowLogit w x1 x2 b r k)
      = rowLogit w x1 x2 b r (snd (rowLogit w x1 x2 b r))))
    (snd (rowLogit w x1 x2 b r)) (by simp [snd_ne_fst]) (fun k hk => by
      rw [decide_eq_false_iff_not]
      split
      · exact fun h => hl _ h.symm
      · rename_i hne
        exact ((snd_top _ k hne).2 hk).ne)
  simp only [decide_eq_true_eq] at h
  exact h

/-- The block's exponential is the row's ratio. -/
theorem pay8_eq (r : Fin 4096) : k0_pay8 w x1 x2 b (ix2 0 r) = ratio (rowLogit w x1 x2 b r) := by
  pointwise [k0_pay8]
  rw [pay6_eq, pay3_eq, ratio]

/-- What the block stores at row `r` and column `c`: the mixture of the experts' columns under the row's gate. -/
theorem payload_eq (r : Fin 4096) (c : Fin 8) (hl : ∀ k, rowLogit w x1 x2 b r k ≠ ⊥) :
    k0_pay10 (k0_pay1 w x1 x2) (k0_pay4 w x1 x2 b) (k0_pay7 w x1 x2 b) (k0_pay8 w x1 x2 b) k0_pay9 (ix2 r c)
      = mixture (rowLogit w x1 x2 b r) (fun e => k0_pay1 w x1 x2 (ix2 r (col e c))) := by
  pointwise [k0_pay10, k0_pay9]
  simp only [spread_bit, gather_bit, bit_value, pay4_eq, pay7_eq w x1 x2 b _ r hl, pay8_eq]
  rw [spread_gather (fun x => k0_pay1 w x1 x2 (ix2 r x)), mixture]
  refine Finset.sum_congr rfl fun e _ => ?_
  congr 1
  rw [weight]
  by_cases h1 : e = fst (rowLogit w x1 x2 b r)
  · have h2 : e ≠ snd (rowLogit w x1 x2 b r) := h1 ▸ (snd_ne_fst _).symm
    simp [h1, (snd_ne_fst (rowLogit w x1 x2 b r)).symm, Scalar.select]
  · by_cases h2 : e = snd (rowLogit w x1 x2 b r)
    · simp [h2, snd_ne_fst, Scalar.select]
    · simp [h1, h2, Scalar.select]

end Cert.Gate
end
-- ==== Proof.Staged.lean ====
/-
What each grid point's blocks hold, entry by entry, in terms of the program's arguments.
-/
module

public import proofs.«01_k».proof.Proof.Gen.KernelIdeal.Value
public import Idealize.ShloMosaic.Lib.Pointwise
public import Idealize.ShloMosaic.Lib.Pipeline.ValueKit
public import Idealize.ShloMosaic.Lib.Claim

@[expose] public section

set_option maxRecDepth 16384

noncomputable section

namespace Cert.Gate

open Cert.KernelIdeal Cert.KernelIdeal.Gen Idealize.ShloMosaic Idealize.ShloMosaic.TcCoe

variable (m : (ℓ : Loc nD τ sig) → Buf (Elt Ideal) ℓ) (c : Dev nD)

/-- The block each window is at, at grid point `t`: row block `t` of the two halves of the tokens and of the output,
    the whole of the weights and the bias. -/
theorem idx : ∀ t : Fin cfg0.N, win0_0.index t = ![t.val, 0] ∧ win0_1.index t = ![t.val, 1]
    ∧ win0_2.index t = ![0, 0] ∧ win0_3.index t = ![0, 0] ∧ win0_4.index t = ![t.val, 0] :=
  (by decide +kernel : ∀ t : Fin grid0.N, _)

/-- Row `r` of block `t` of the tokens. -/
def row (t : Fin cfg0.N) (r : Fin 4096) : Fin 32768 :=
  ⟨t.val * 4096 + r.val, by have : t.val < 8 := t.isLt; omega⟩

/-- The first window holds the left half of the block's tokens. -/
theorem left_eq (t : Fin cfg0.N) (r : Fin 4096) (d : Fin 384) :
    iblk m c 0 t (ix2 r d) = m ((c.tc : Thread nD τ).loc main_arg0) (ix2 (row t r) ⟨d.val, by omega⟩) := by
  blk_ext [iblk, V, idx t, row]

/-- The second window holds the right half of the block's tokens. -/
theorem right_eq (t : Fin cfg0.N) (r : Fin 4096) (d : Fin 384) :
    iblk m c 1 t (ix2 r d) = m ((c.tc : Thread nD τ).loc main_arg0) (ix2 (row t r) ⟨384 + d.val, by omega⟩) := by
  blk_ext [iblk, V, idx t, row]

/-- The third window's first eight columns are the gate's weights. -/
theorem gate_eq (t : Fin cfg0.N) (d : Fin 768) (e : Fin 8) :
    iblk m c 2 t (ix2 d ⟨e.val, by omega⟩) = m ((c.tc : Thread nD τ).loc main_arg1) (ix2 d e) := by
  blk_simp [iblk, idx t]
  entry_read
  pointwise
  split
  · blk_ext [idx t]
  · rename_i h
    exfalso
    blk_simp [idx t] at h
    exact h e.isLt

/-- The third window's later columns are the experts' weights, expert after expert. -/
theorem experts_eq (t : Fin cfg0.N) (d : Fin 768) (e o : Fin 8) :
    iblk m c 2 t (ix2 d ⟨8 + 8 * e.val + o.val, by omega⟩) = m ((c.tc : Thread nD τ).loc main_arg3) (ix3 e d o) := by
  blk_simp [iblk, idx t]
  entry_read
  pointwise
  split
  · rename_i h
    exfalso
    blk_simp [idx t] at h
    have h' : 8 + 8 * e.val + o.val < 8 := h
    omega
  · blk_ext [idx t]
    all_goals trace_state
    all_goals omega

/-- The fourth window holds the bias. -/
theorem bias_eq (t : Fin cfg0.N) (e : Fin 8) :
    iblk m c 3 t (ix2 0 e) = m ((c.tc : Thread nD τ).loc main_arg2) (ix1 e) := by
  blk_simp [iblk, idx t]
  entry_read
  pointwise
  blk_ext [idx t]

end Cert.Gate
end
-- ==== Proof.Array.lean ====
/-
What the kernel's output array holds after the run: at each row, the mixture of experts under the row's gate.
-/
module

public import proofs.«01_k».proof.Proof.Block
public import proofs.«01_k».proof.Proof.Staged

@[expose] public section

set_option maxRecDepth 16384

noncomputable section

namespace Cert.Gate

open Cert.KernelIdeal Cert.KernelIdeal.Gen Idealize.ShloMosaic Idealize.ShloMosaic.TcCoe

/-- A sum over 768 terms is the sum over the first half plus the sum over the second. -/
theorem sum_halves (f : Fin 768 → EReal) :
    ∑ d : Fin 384, f ⟨d.val, by omega⟩ + ∑ d : Fin 384, f ⟨384 + d.val, by omega⟩ = ∑ d, f d :=
  (Fin.sum_univ_add (a := 384) (b := 384) f).symm

/-- A row's gate product, split into the two halves of the row. -/
theorem gateDot_halves (x : Vec Ideal ⟨2, ![32768, 768]⟩ .f32) (gW : Vec Ideal ⟨2, ![768, 8]⟩ .f32) (n : Fin 32768)
    (e : Fin 8) : ∑ d : Fin 384, x (ix2 n ⟨d.val, by omega⟩) * gW (ix2 ⟨d.val, by omega⟩ e)
      + ∑ d : Fin 384, x (ix2 n ⟨384 + d.val, by omega⟩) * gW (ix2 ⟨384 + d.val, by omega⟩ e) = gateDot x gW n e :=
  sum_halves fun d => x (ix2 n d) * gW (ix2 d e)

/-- An expert's output on a row, split into the two halves of the row. -/
theorem expert_halves (x : Vec Ideal ⟨2, ![32768, 768]⟩ .f32) (eW : Vec Ideal ⟨3, ![8, 768, 8]⟩ .f32) (n : Fin 32768)
    (o e : Fin 8) : ∑ d : Fin 384, x (ix2 n ⟨d.val, by omega⟩) * eW (ix3 e ⟨d.val, by omega⟩ o)
      + ∑ d : Fin 384, x (ix2 n ⟨384 + d.val, by omega⟩) * eW (ix3 e ⟨384 + d.val, by omega⟩ o) = expert x eW n o e :=
  sum_halves fun d => x (ix2 n d) * eW (ix3 e d o)

variable (m : (ℓ : Loc nD τ sig) → Buf (Elt Ideal) ℓ) (c : Dev nD)

/-- The block's product at a gate column is the gate's product over the whole row. -/
theorem gate_product (t : Fin cfg0.N) (r : Fin 4096) (e : Fin 8) :
    k0_pay1 (F := Ideal) (iblk m c 2 t) (iblk m c 0 t) (iblk m c 1 t) (ix2 r ⟨e.val, by omega⟩)
      = gateDot (m ((c.tc : Thread nD τ).loc main_arg0)) (m ((c.tc : Thread nD τ).loc main_arg1)) (row t r) e := by
  pointwise [k0_pay1]
  simp only [left_eq, right_eq, gate_eq]
  exact gateDot_halves _ _ _ _

/-- The block's product at an expert's column is the expert's output over the whole row. -/
theorem expert_product (t : Fin cfg0.N) (r : Fin 4096) (e o : Fin 8) :
    k0_pay1 (F := Ideal) (iblk m c 2 t) (iblk m c 0 t) (iblk m c 1 t) (ix2 r (col e o))
      = expert (m ((c.tc : Thread nD τ).loc main_arg0)) (m ((c.tc : Thread nD τ).loc main_arg3)) (row t r) o e := by
  pointwise [k0_pay1, col]
  simp only [left_eq, right_eq, experts_eq]
  exact expert_halves _ _ _ _ _

/-- The block's logits are the row's. -/
theorem rowLogit_eq (t : Fin cfg0.N) (r : Fin 4096) :
    rowLogit (iblk m c 2 t) (iblk m c 0 t) (iblk m c 1 t) (iblk m c 3 t) r
      = logit (m ((c.tc : Thread nD τ).loc main_arg0)) (m ((c.tc : Thread nD τ).loc main_arg1))
          (m ((c.tc : Thread nD τ).loc main_arg2)) (row t r) := by
  funext e
  unfold rowLogit
  pointwise [k0_pay2, logit]
  rw [gate_product, bias_eq]

/-- With every logit finite, the output array after the run is the mixture of experts. -/
theorem array_eq (hfin : ∀ n e, ∃ a : ℝ, logit (m ((c.tc : Thread nD τ).loc main_arg0))
      (m ((c.tc : Thread nD τ).loc main_arg1)) (m ((c.tc : Thread nD τ).loc main_arg2)) n e = a) :
    (dats m 0 c).arrAt 4 cfg0.N = output (m ((c.tc : Thread nD τ).loc main_arg0))
      (m ((c.tc : Thread nD τ).loc main_arg1)) (m ((c.tc : Thread nD τ).loc main_arg2))
      (m ((c.tc : Thread nD τ).loc main_arg3)) := by
  refine (dats m 0 c).arrAt_eq_of_covers 4 _ (by decide +kernel) fun t hf y => ?_
  blk_simp
  rw [after0_4]
  frame_out
  idx_vars y
  have hemb : ((View.whole main_v4).slice (win0_4.rect t)).emb (ix2 y0 y1) = ix2 (row t y0) y1 := by
    blk_ext [idx t, row]
  refine (payload_eq _ _ _ _ y0 y1 fun k => ?_).trans ?_
  · rw [rowLogit_eq]
    obtain ⟨a, ha⟩ := hfin (row t y0) k
    rw [ha]
    exact EReal.coe_ne_bot a
  · rw [rowLogit_eq, hemb]
    simp only [expert_product]
    rfl

end Cert.Gate
end
-- ==== Proof.Reference.lean ====
/-
What the reference computes: at each row, the mixture of experts under the row's gate.
-/
module

public import proofs.«01_k».proof.Proof.Weights
public import proofs.«01_k».proof.Proof.Gen.ReferenceIdeal.Run
public import Idealize.ShloMosaic.Lib.Routing.OpsSet
public import Idealize.ShloMosaic.Lib.Routing.OpsPair

@[expose] public section

set_option maxRecDepth 16384

noncomputable section

namespace Cert.Gate

open Cert.ReferenceIdeal Cert.ReferenceIdeal.Gen Idealize.ShloMosaic Idealize.ShloMosaic.TcCoe

/-- The reference's logits. -/
def refLogits (x : FVec Ideal S32768x768 .f32) (gW : FVec Ideal S768x8 .f32) (gb : FVec Ideal S8 .f32) :
    FVec Ideal S32768x8 .f32 :=
  addf (Host.dotGeneral dot_S32768x768_S768x8_S32768x8_1_0_0_1_n_n none x gW)
    (broadcastInDim S32768x8 ![0, 1] bcast_S1x8_S32768x8_0_1 (broadcastInDim S1x8 ![1] bcast_S8_S1x8_1 gb))

/-- The reference's softmax of each row of two. -/
def refSoftmax (v : FVec Ideal S32768x2 .f32) : FVec Ideal S32768x2 .f32 :=
  let e := Host.exp (subf v (broadcastInDim S32768x2 ![0, 1] bcast_S32768x1_S32768x2_0_1
    (broadcastInDim S32768x1 ![0] bcast_S32768_S32768x1_0
      (maximumf (broadcastInDim S32768 ![] bcast_S_S32768 (constant S_ .f32 0xFF800000#32))
        (Host.reduce FloatOps.maximumf v (constant S_ .f32 0xFF800000#32) reducesTo_S32768x2_S32768_d1 h_S_)))))
  Host.divf e (broadcastInDim S32768x2 ![0, 1] bcast_S32768x1_S32768x2_0_1
    (broadcastInDim S32768x1 ![0] bcast_S32768_S32768x1_0
      (Host.reduceAdd e (constant S_ .f32 0x00000000#32) reducesTo_S32768x2_S32768_d1 h_S_)))

/-- The pairs of row and position at which the reference places the weights. -/
def refPlaces (i : IVec S32768x2 32) : IVec S32768x2x2 32 :=
  let r := broadcastInDim S32768x1 ![0] bcast_S32768_S32768x1_0 (iotaInDim S32768 32 0)
  concatenate S32768x2x2 2
    [⟨S32768x2x1, broadcastInDim S32768x2x1 ![0, 1] bcast_S32768x2_S32768x2x1_0_1
      (broadcastInDim S32768x2 ![0, 1] bcast_S32768x1_S32768x2_0_1
        (select (cmpi .slt r (broadcastInDim S32768x1 ![] bcast_S_S32768x1 (constantI S_ 32 0#32)))
          (addi r (broadcastInDim S32768x1 ![] bcast_S_S32768x1 (constantI S_ 32 32768#32))) r))⟩,
     ⟨S32768x2x1, broadcastInDim S32768x2x1 ![0, 1] bcast_S32768x2_S32768x2x1_0_1
      (select (cmpi .slt i (broadcastInDim S32768x2 ![] bcast_S_S32768x2 (constantI S_ 32 0#32)))
        (addi i (broadcastInDim S32768x2 ![] bcast_S_S32768x2 (constantI S_ 32 8#32))) i)⟩]
    concatenates_S32768x2x1_S32768x2x1_S32768x2x2_d2

/-- The reference's gate: the weights at their places, zero elsewhere. -/
def refGate (i : IVec S32768x2 32) (p : FVec Ideal S32768x2 .f32) : FVec Ideal S32768x8 .f32 :=
  Host.scatter scatter_S32768x8_S32768x2x2_S32768x2_n_01_01_2 (fun _ b => b)
    (broadcastInDim S32768x8 ![] bcast_S_S32768x8 (constant S_ .f32 0x00000000#32)) (refPlaces i) p

/-- The reference's last step: the experts' outputs under the gate, added up. -/
def refMix (g : FVec Ideal S32768x8 .f32) (x : FVec Ideal S32768x768 .f32) (eW : FVec Ideal S8x768x8 .f32) :
    FVec Ideal S32768x8 .f32 :=
  Host.reduceAdd (mulf (broadcastInDim S32768x8x8 ![0, 1, 2] bcast_S32768x8x1_S32768x8x8_0_1_2
      (broadcastInDim S32768x8x1 ![0, 1] bcast_S32768x8_S32768x8x1_0_1 g))
    (Host.dotGeneral dot_S32768x768_S8x768x8_S32768x8x8_1_1_0_02_n_n none x eW))
    (constant S_ .f32 0x00000000#32) reducesTo_S32768x8x8_S32768x8_d1 h_S_

/-- The reference's two largest logits of each row, with their positions. -/
def refTop (l : FVec Ideal S32768x8 .f32) : FVec Ideal S32768x2 .f32 × IVec S32768x2 32 :=
  Host.topK S32768x2 1 (FloatOps.cmpfTotal .gt) l sliceFits_S32768x8_S32768x2

/-- The reference's logits, entry by entry. -/
theorem refLogits_eq (x : FVec Ideal S32768x768 .f32) (gW : FVec Ideal S768x8 .f32) (gb : FVec Ideal S8 .f32)
    (n : Fin 32768) (e : Fin 8) : refLogits x gW gb (ix2 n e) = logit x gW gb n e := by
  pointwise [refLogits, logit, gateDot]

/-- The position of a row's largest value (`j = 0`) or of its second largest (`j = 1`). -/
def pick (l : Fin 8 → EReal) (j : Fin 2) : Fin 8 := if j = 0 then fst l else snd l

/-- Moving along the columns from row `n` stays on row `n`. -/
theorem along_row (n : Fin 32768) (a k : Fin 8) : ((ix2 n a : S32768x8.Idx).along 1 k) = ix2 n k := by
  funext d
  fin_cases d <;> rfl

/-- The order the reference sorts a row by. -/
theorem order_eq (l : FVec Ideal S32768x8 .f32) (n : Fin 32768) (a : Fin 8) :
    (fun k k' : Fin 8 => FloatOps.cmpfTotal CmpDirection.gt (l ((ix2 n a : S32768x8.Idx).along 1 k))
      (l ((ix2 n a : S32768x8.Idx).along 1 k')) == 1#1) = above fun e => l (ix2 n e) := by
  funext k k'
  rw [along_row, along_row]
  show (BitVec.ofBool (decide (l (ix2 n k') < l (ix2 n k))) == 1#1) = decide (l (ix2 n k') < l (ix2 n k))
  by_cases h : l (ix2 n k') < l (ix2 n k) <;> simp [h]

/-- The position the sort puts at place `j` of the first two. -/
theorem sorted_pick (l : Fin 8 → EReal) (j : Fin 2) : sortedFrom (above l) ⟨j.val, by omega⟩ = pick l j := by
  fin_cases j <;> rfl

/-- The values of the reference's two largest. -/
theorem refTop_value (l : FVec Ideal S32768x8 .f32) (n : Fin 32768) (j : Fin 2) :
    (refTop l).1 (ix2 n j) = l (ix2 n (pick (fun e => l (ix2 n e)) j)) := by
  unfold refTop Host.topK Host.sort2
  pointwise
  rw [← sorted_pick, ← order_eq l n ⟨j.val, by omega⟩]
  exact congrArg l (along_row n _ _)

/-- The positions of the reference's two largest, as 32-bit words. -/
theorem refTop_place (l : FVec Ideal S32768x8 .f32) (n : Fin 32768) (j : Fin 2) :
    (refTop l).2 (ix2 n j) = BitVec.ofNat 32 (pick (fun e => l (ix2 n e)) j).val := by
  unfold refTop Host.topK Host.sort2
  pointwise
  rw [← sorted_pick, ← order_eq l n ⟨j.val, by omega⟩]
  exact congrArg (fun i : S32768x8.Idx => BitVec.ofNat 32 (i 1).val) (along_row n _ _)

/-- The reference's softmax over a row of the two largest logits: each one's exponential relative to the largest,
    over their sum. -/
theorem refSoftmax_eq (v : FVec Ideal S32768x2 .f32) (n : Fin 32768) (j : Fin 2) (a b : ℝ) (h0 : v (ix2 n 0) = a)
    (h1 : v (ix2 n 1) = b) (hab : b ≤ a) :
    refSoftmax v (ix2 n j) = Ideal.div (if j = 0 then 1 else Ideal.exp ((b : EReal) - a)) (1 + Ideal.exp ((b : EReal) - a)) := by
  pointwise [refSoftmax]
  have hmax : Finset.fold max (⊥ : EReal) (fun k => v (ix2 n k)) Finset.univ = a := by
    apply le_antisymm
    · rw [Finset.fold_max_le]
      refine ⟨bot_le, fun k _ => ?_⟩
      fin_cases k
      · exact h0.le
      · exact h1.le.trans (EReal.coe_le_coe_iff.mpr hab)
    · rw [Finset.le_fold_max]
      exact Or.inr ⟨0, Finset.mem_univ _, h0.ge⟩
  have hone : Ideal.exp ((a : EReal) - a) = 1 := by
    rw [← EReal.coe_sub, sub_self, Ideal.exp_coe, Real.exp_zero, EReal.coe_one]
  rw [ofBits_least, hmax, max_eq_right bot_le, Fin.sum_univ_two, h0, h1, hone]
  congr 1
  fin_cases j
  · simp only [Fin.zero_eta, if_true, h0, hone]
  · simp only [Fin.mk_one, h1]
    rfl

/-- Where the reference places the weights: its own row, and the position found. -/
theorem refPlaces_row (i : IVec S32768x2 32) (n : Fin 32768) (j : Fin 2) :
    (refPlaces i (ix3 n j 0)).toInt = n.val := by
  pointwise [refPlaces]
  rw [Routing.wrap_of_lt _ _ (by rw [BitVec.toNat_ofNat]; omega)]
  rw [StableHlo.Predicate.toInt_ofNat_small]
  omega

theorem refPlaces_col (i : IVec S32768x2 32) (n : Fin 32768) (j : Fin 2) (p : Fin 8)
    (h : i (ix2 n j) = BitVec.ofNat 32 p.val) : (refPlaces i (ix3 n j 1)).toInt = p.val := by
  pointwise [refPlaces]
  rw [h, Routing.wrap_of_lt _ _ (by rw [BitVec.toNat_ofNat]; omega)]
  rw [StableHlo.Predicate.toInt_ofNat_small]
  omega

/-- The update of row `n` and place `j` lands at row `n'` and column `e` when the rows agree and `e` is the position
    found. -/
theorem lands (i : IVec S32768x2 32) (n n' : Fin 32768) (j : Fin 2) (p e : Fin 8)
    (h : i (ix2 n j) = BitVec.ofNat 32 p.val) :
    scatter_S32768x8_S32768x2x2_S32768x2_n_01_01_2.resultIdx? (ix2 n j) (refPlaces i) = some (ix2 n' e)
      ↔ n = n' ∧ p = e := by
  have h' := Routing.scatter_lands2 scatter_S32768x8_S32768x2x2_S32768x2_n_01_01_2 rfl rfl rfl (refPlaces i) n j n' e
  simp only [← ix2_eq_valueIdx, ← ix3_eq_valueIdx] at h'
  refine h'.trans ?_
  rw [refPlaces_row, refPlaces_col i n j p h, Nat.cast_inj, Nat.cast_inj, Fin.val_inj, Fin.val_inj]

/-- The gate is the weight of a place at the position found there. -/
theorem refGate_at (i : IVec S32768x2 32) (p : FVec Ideal S32768x2 .f32) (q : Fin 32768 → Fin 2 → Fin 8)
    (hq : ∀ n, Function.Injective (q n)) (hi : ∀ n j, i (ix2 n j) = BitVec.ofNat 32 (q n j).val) (n : Fin 32768) (j : Fin 2) :
    refGate i p (ix2 n (q n j)) = p (ix2 n j) := by
  refine Routing.scatter_set_hit _ _ _ _ _ _ (fun k hk => ?_) (ix2 n j) ((lands i n n j _ _ (hi n j)).mpr ⟨rfl, rfl⟩)
  idx_vars k
  obtain ⟨rfl, h⟩ := (lands i _ _ _ _ _ (hi _ _)).mp hk
  rw [hq _ h]

/-- The gate is zero at a position not found. -/
theorem refGate_off (i : IVec S32768x2 32) (p : FVec Ideal S32768x2 .f32) (q : Fin 32768 → Fin 2 → Fin 8)
    (hi : ∀ n j, i (ix2 n j) = BitVec.ofNat 32 (q n j).val) (n : Fin 32768) (e : Fin 8) (he : ∀ j, q n j ≠ e) :
    refGate i p (ix2 n e) = 0 := by
  refine (Routing.scatter_set_miss _ _ _ _ _ fun k hk => ?_).trans ?_
  · idx_vars k
    obtain ⟨rfl, h⟩ := (lands i _ _ _ _ _ (hi _ _)).mp hk
    exact he _ h
  · pointwise

/-- The reference's last step, entry by entry. -/
theorem refMix_eq (g : FVec Ideal S32768x8 .f32) (x : FVec Ideal S32768x768 .f32) (eW : FVec Ideal S8x768x8 .f32)
    (n : Fin 32768) (c : Fin 8) : refMix g x eW (ix2 n c) = ∑ e, g (ix2 n e) * expert x eW n c e := by
  pointwise [refMix, expert]

/-- The reference's gate is the weight, for finite logits. -/
theorem refGate_eq (l : FVec Ideal S32768x8 .f32) (n : Fin 32768) (e : Fin 8)
    (hl : ∀ k, ∃ a : ℝ, l (ix2 n k) = a) :
    refGate (refTop l).2 (refSoftmax (refTop l).1) (ix2 n e) = weight (fun k => l (ix2 n k)) e := by
  have hq : ∀ n, Function.Injective (pick fun k => l (ix2 n k)) := by
    intro n a b h
    fin_cases a <;> fin_cases b <;> first | rfl | exact absurd h (snd_ne_fst _) | exact absurd h.symm (snd_ne_fst _)
  obtain ⟨a, ha⟩ := hl (fst fun k => l (ix2 n k))
  obtain ⟨b, hb⟩ := hl (snd fun k => l (ix2 n k))
  have hab : b ≤ a := by
    rw [← EReal.coe_le_coe_iff, ← ha, ← hb]
    exact (fst_top (fun k => l (ix2 n k)) _).1
  have hs : ∀ j, refSoftmax (refTop l).1 (ix2 n j) = _ := fun j =>
    refSoftmax_eq _ n j a b ((refTop_value l n 0).trans ha) ((refTop_value l n 1).trans hb) hab
  have hr : Ideal.exp ((b : EReal) - a) = ratio fun k => l (ix2 n k) := by rw [ratio, ha, hb]
  rw [hr] at hs
  rw [weight]
  by_cases h0 : e = fst fun k => l (ix2 n k)
  · rw [if_pos h0, h0]
    exact (refGate_at _ _ _ hq (refTop_place l) n 0).trans (hs 0)
  · by_cases h1 : e = snd fun k => l (ix2 n k)
    · rw [if_neg h0, if_pos h1, h1, ← div_sum _ hl]
      exact (refGate_at _ _ _ hq (refTop_place l) n 1).trans (hs 1)
    · rw [if_neg h0, if_neg h1]
      refine refGate_off _ _ _ (refTop_place l) n e fun j => ?_
      fin_cases j
      · exact fun h => h0 h.symm
      · exact fun h => h1 h.symm

/-- The reference's result from its four arguments. -/
def refOutput (x : FVec Ideal S32768x768 .f32) (gW : FVec Ideal S768x8 .f32) (gb : FVec Ideal S8 .f32)
    (eW : FVec Ideal S8x768x8 .f32) : FVec Ideal S32768x8 .f32 :=
  refMix (refGate (refTop (refLogits x gW gb)).2 (refSoftmax (refTop (refLogits x gW gb)).1)) x eW

/-- The reference's gate on row `n` is the weight of the row's logits. -/
theorem gate_weight (x : FVec Ideal S32768x768 .f32) (gW : FVec Ideal S768x8 .f32) (gb : FVec Ideal S8 .f32)
    (n : Fin 32768) (e : Fin 8) (hfin : ∀ k, ∃ a : ℝ, logit x gW gb n k = a) :
    refGate (refTop (refLogits x gW gb)).2 (refSoftmax (refTop (refLogits x gW gb)).1) (ix2 n e)
      = weight (logit x gW gb n) e := by
  have h : (fun k => refLogits x gW gb (ix2 n k)) = logit x gW gb n := funext fun k => refLogits_eq x gW gb n k
  rw [refGate_eq (refLogits x gW gb) n e fun k => by rw [refLogits_eq]; exact hfin k, h]

/-- With every logit finite, the reference's result is the mixture of experts, entry by entry. -/
theorem refOutput_at (x : FVec Ideal S32768x768 .f32) (gW : FVec Ideal S768x8 .f32) (gb : FVec Ideal S8 .f32)
    (eW : FVec Ideal S8x768x8 .f32) (n : Fin 32768) (o : Fin 8) (hfin : ∀ k, ∃ a : ℝ, logit x gW gb n k = a) :
    refOutput x gW gb eW (ix2 n o) = mixture (logit x gW gb n) (expert x eW n o) := by
  rw [refOutput, refMix_eq, mixture]
  refine Finset.sum_congr rfl fun e _ => ?_
  rw [gate_weight x gW gb n e hfin, mul_comm]

/-- The same as an equation of arrays. -/
theorem refOutput_eq (x : FVec Ideal S32768x768 .f32) (gW : FVec Ideal S768x8 .f32) (gb : FVec Ideal S8 .f32)
    (eW : FVec Ideal S8x768x8 .f32) (hfin : ∀ n e, ∃ a : ℝ, logit x gW gb n e = a) :
    refOutput x gW gb eW = output x gW gb eW := by
  funext j
  idx_vars j
  exact refOutput_at x gW gb eW j0 j1 (hfin j0)

/-- The reference's run ends with that result. -/
theorem ref_steps (m : (ℓ : Loc nD τ sig) → Buf (Elt Ideal) ℓ) (c : Dev nD) :
    Value.res_main_v37 (F := Ideal) m c = refOutput (m ((c.tc : Thread nD τ).loc main_arg0))
      (m ((c.tc : Thread nD τ).loc main_arg1)) (m ((c.tc : Thread nD τ).loc main_arg2))
      (m ((c.tc : Thread nD τ).loc main_arg3)) := rfl

end Cert.Gate
end
-- ==== Proof.Finite.lean ====
/-
What the precondition says: every logit is a real number.
-/
module

public import proofs.«01_k».proof.Proof.Weights
public import proofs.«01_k».proof.Proof.Gen.Pre_finite_logits

@[expose] public section

set_option maxRecDepth 16384

noncomputable section

namespace Cert.Gate

open Idealize.ShloMosaic

/-- Where the precondition holds, every logit is a real number. -/
theorem finite_of_pre (x : Vec Ideal ⟨2, ![32768, 768]⟩ .f32) (gW : Vec Ideal ⟨2, ![768, 8]⟩ .f32)
    (gb : Vec Ideal ⟨1, ![8]⟩ .f32) (eW : Vec Ideal ⟨3, ![8, 768, 8]⟩ .f32)
    (h : Cert.Pre_finite_logits.fn (F := Ideal) x gW gb eW = fun _ => 1#1) (n : Fin 32768) (e : Fin 8) :
    ∃ a : ℝ, logit x gW gb n e = a := by
  have h' := congrFun h (ix2 n e)
  have hv : Cert.Pre_finite_logits.fn (F := Ideal) x gW gb eW (ix2 n e)
      = BitVec.ofBool (decide (max (logit x gW gb n e) (-logit x gW gb n e) < ⊤)) := by
    rw [← ofBits_greatest]
    pointwise [Cert.Pre_finite_logits.fn, logit, gateDot]
    rfl
  rw [hv] at h'
  have hlt : max (logit x gW gb n e) (-logit x gW gb n e) < ⊤ := by
    by_contra hc
    simp [hc] at h'
  have h1 := (max_lt_iff.mp hlt).1
  have h2 := (max_lt_iff.mp hlt).2
  refine ⟨(logit x gW gb n e).toReal, (EReal.coe_toReal h1.ne fun hb => ?_).symm⟩
  rw [hb] at h2
  simp at h2

end Cert.Gate
end
-- ==== Proof.lean ====
/-
The claims: each program's frame, the idealized kernel being the kernel's own reading, and kernel and reference ending
with the same result where every gate logit is finite.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Pre_finite_logits
public import proofs.«01_k».proof.Proof.Array
public import proofs.«01_k».proof.Proof.Reference
public import proofs.«01_k».proof.Proof.Finite
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel's run ends with the mixture of experts in its output array and its arguments unchanged, where every
    logit is finite. -/
theorem kernel_run (m : (ℓ : Loc Cert.KernelIdeal.nD Cert.KernelIdeal.τ Cert.KernelIdeal.sig) → Buf (Elt Ideal) ℓ)
    (g : Dev Cert.KernelIdeal.nD → PrngReg)
    (hfin : ∀ (c : Dev Cert.KernelIdeal.nD) n e, ∃ a : ℝ,
      Cert.Gate.logit (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) n e = a) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v4) = Cert.Gate.output
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono
    (fun _ h c => And.intro ((h c).1.trans (Cert.Gate.array_eq m c (hfin c))) (h c).2)
    (Cert.KernelIdeal.Value.run_blocks (F := Ideal) m g)

/-- The reference's run ends with the mixture of experts in its result and its arguments unchanged, where every logit
    is finite. -/
theorem reference_run
    (m : (ℓ : Loc Cert.ReferenceIdeal.nD Cert.ReferenceIdeal.τ Cert.ReferenceIdeal.sig) → Buf (Elt Ideal) ℓ)
    (g : Dev Cert.ReferenceIdeal.nD → PrngReg)
    (hfin : ∀ (c : Dev Cert.ReferenceIdeal.nD) n e, ∃ a : ℝ,
      Cert.Gate.logit (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2)) n e = a) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v37) = Cert.Gate.output
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run Cert.ReferenceIdeal.defs _ _).mono
    (fun _ h c => And.intro ((h c).1.trans ((Cert.Gate.ref_steps m c).trans (Cert.Gate.refOutput_eq _ _ _ _ (hfin c))))
      (h c).2)
    (Cert.ReferenceIdeal.Value.run (F := Ideal) m g)

/-- Run from the same arguments, with every logit finite, the kernel and the reference end with the same result. -/
theorem same_result : algebraic_KernelIdeal_ReferenceIdeal_pre_finite_logits
    (hKernelIdeal := Cert.KernelIdeal.Gen.facts) (hReferenceIdeal := Cert.ReferenceIdeal.Gen.facts)
    (hPre_finite_logits := Cert.Pre_finite_logits.Gen.facts) := by
  intro m g m' g' hpre hargs
  have hfin := fun c => Cert.Gate.finite_of_pre _ _ _ _ (hpre c)
  refine ⟨_, kernel_run m g hfin, ?_⟩
  refine (θ_run Cert.ReferenceIdeal.defs _ _).mono (fun _ h c => And.intro ((h c).1.trans ?_) (h c).2)
    (reference_run m' g' fun c => ?_)
  · rw [(hargs c).1, (hargs c).2.1, (hargs c).2.2.1]
    exact hfin c
  · rw [(hargs c).1, (hargs c).2.1, (hargs c).2.2.1, (hargs c).2.2.2]

/-- Each run of the reference ends with its arguments unchanged and no semaphore raised. -/
theorem reference_frame : quiescent_ReferenceIdeal (hReferenceIdeal := Cert.ReferenceIdeal.Gen.facts) :=
  fun m g _ => (θ_run Cert.ReferenceIdeal.defs _ _).mono
    (fun r h => ⟨fun c => (h c).2, sem_eq_zero_of_no_sems rfl r.2⟩) (Cert.ReferenceIdeal.Value.run m g)

/-- Everything claimed. -/
theorem claim : Cert.Claim := ⟨Cert.Kernel.Gen.facts, Cert.KernelIdeal.Gen.facts, Cert.ReferenceIdeal.Gen.facts,
  Cert.Pre_finite_logits.Gen.facts,
  fun m g _ => Cert.Kernel.Gen.frame m g,
  fun m g _ => Cert.KernelIdeal.Gen.frame m g,
  fun m g _ => Cert.KernelIdeal.Gen.frame m g,
  reference_frame,
  fun m g _ => reference_frame m g trivial,
  trivial,
  same_result⟩

end Cert.Proof

end
